-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_tables [hPre_finite_tables : Cert.Pre_finite_tables.Facts] (m : (ℓ : Loc Cert.KernelIdeal.nD Cert.KernelIdeal.τ Cert.KernelIdeal.sig) → Buf (Elt Ideal) ℓ) : Prop :=
  ∀ c : Dev Cert.KernelIdeal.nD,
    (Cert.Pre_finite_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_tables [hPre_finite_tables : Cert.Pre_finite_tables.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_tables [hKernelIdeal : Cert.KernelIdeal.Facts] [hPre_finite_tables : Cert.Pre_finite_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_tables m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_tables [hReferenceIdeal : Cert.ReferenceIdeal.Facts] [hPre_finite_tables : Cert.Pre_finite_tables.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_tables m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.sign_bit.Statement Cert.KernelIdeal.S4096x256 .bf16

def algebraic_KernelIdeal_ReferenceIdeal_pre_finite_tables [hKernelIdeal : Cert.KernelIdeal.Facts] [hReferenceIdeal : Cert.ReferenceIdeal.Facts] [hPre_finite_tables : Cert.Pre_finite_tables.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_tables m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_tables : Cert.Pre_finite_tables.Facts),
    quiescent_Kernel (hKernel := hKernel)
    ∧ quiescent_KernelIdeal (hKernelIdeal := hKernelIdeal)
    ∧ quiescent_KernelIdeal_pre_finite_tables (hKernelIdeal := hKernelIdeal) (hPre_finite_tables := hPre_finite_tables)
    ∧ quiescent_ReferenceIdeal (hReferenceIdeal := hReferenceIdeal)
    ∧ quiescent_ReferenceIdeal_pre_finite_tables (hReferenceIdeal := hReferenceIdeal) (hPre_finite_tables := hPre_finite_tables)
    ∧ preserves_Kernel_KernelIdeal
    ∧ algebraic_KernelIdeal_ReferenceIdeal_pre_finite_tables (hKernelIdeal := hKernelIdeal) (hReferenceIdeal := hReferenceIdeal) (hPre_finite_tables := hPre_finite_tables)
-- ==== Pre_finite_tables.lean ====
abbrev S65536x256 : Shape := ⟨2, ![65536, 256]⟩
abbrev S256x256 : Shape := ⟨2, ![256, 256]⟩
abbrev S2x256 : Shape := ⟨2, ![2, 256]⟩
abbrev S_ : Shape := ⟨0, ![]⟩

class Facts : Prop where
  bcast_S_S256x256 : S_.BroadcastsInDim S256x256 (![] : Fin 0 → Fin S256x256.rank)
  bcast_S_S2x256 : S_.BroadcastsInDim S2x256 (![] : Fin 0 → Fin S2x256.rank)

variable [Facts]

def fn {F : FTy → Type} [FloatOps F] (main_arg0 : FVec F S65536x256 .f32) (main_arg1 : FVec F S256x256 .f32) (main_arg2 : FVec F S2x256 .f32) : IVec S256x256 1 × IVec S2x256 1 :=
  let main_v0 : FVec F S256x256 .f32 := Host.absf main_arg1
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_v3 : FVec F S2x256 .f32 := Host.absf main_arg2
  let main_cst_0 : FVec F S_ .f32 := constant S_ .f32 0x7F800000#32
  let main_v4 : FVec F S2x256 .f32 := broadcastInDim S2x256 ![] bcast_S_S2x256 main_cst_0
  let main_v5 : IVec S2x256 1 := cmpf .olt main_v3 main_v4
  (main_v2, main_v5)
-- ==== Kernel.lean ====
abbrev S65536x256 : Shape := ⟨2, ![65536, 256]⟩
abbrev S256x256 : Shape := ⟨2, ![256, 256]⟩
abbrev S2x256 : Shape := ⟨2, ![2, 256]⟩
abbrev S4096x256 : Shape := ⟨2, ![4096, 256]⟩
abbrev S2 : Shape := ⟨1, ![2]⟩
abbrev S2x1 : Shape := ⟨2, ![2, 1]⟩
abbrev S4096 : Shape := ⟨1, ![4096]⟩
abbrev S4096x1 : Shape := ⟨2, ![4096, 1]⟩
abbrev S4096x2 : Shape := ⟨2, ![4096, 2]⟩
abbrev S1x1 : Shape := ⟨2, ![1, 1]⟩
abbrev S1x256 : Shape := ⟨2, ![1, 256]⟩
abbrev S256x1 : Shape := ⟨2, ![256, 1]⟩

abbrev nBuf : Space → Nat
  | .hbm => 4
  | .vmem => 6
  | .smem => 0
  | _ => 0

abbrev bufTy : (tb : Table) → Fin (tcTables nBuf tb) → BufTy
  | .hbm, ⟨0, _⟩ => ⟨S65536x256, .f32⟩
  | .hbm, ⟨1, _⟩ => ⟨S256x256, .f32⟩
  | .hbm, ⟨2, _⟩ => ⟨S2x256, .f32⟩
  | .hbm, ⟨3, _⟩ => ⟨S65536x256, .f32⟩
  | .local _ .vmem, ⟨0, _⟩ => ⟨S4096x256, .f32⟩
  | .local _ .vmem, ⟨1, _⟩ => ⟨S4096x256, .f32⟩
  | .local _ .vmem, ⟨2, _⟩ => ⟨S256x256, .f32⟩
  | .local _ .vmem, ⟨3, _⟩ => ⟨S2x256, .f32⟩
  | .local _ .vmem, ⟨4, _⟩ => ⟨S4096x256, .f32⟩
  | .local _ .vmem, ⟨5, _⟩ => ⟨S4096x256, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [BitOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F]
-- ==== ReferenceIdeal.lean ====
abbrev S65536x256 : Shape := ⟨2, ![65536, 256]⟩
abbrev S256x256 : Shape := ⟨2, ![256, 256]⟩
abbrev S2x256 : Shape := ⟨2, ![2, 256]⟩
abbrev S_ : Shape := ⟨0, ![]⟩
abbrev S65536 : Shape := ⟨1, ![65536]⟩
abbrev S65536x1 : Shape := ⟨2, ![65536, 1]⟩
abbrev S256x2 : Shape := ⟨2, ![256, 2]⟩
abbrev S65536x2 : Shape := ⟨2, ![65536, 2]⟩
abbrev S2 : Shape := ⟨1, ![2]⟩
abbrev S1x2 : Shape := ⟨2, ![1, 2]⟩
abbrev S1 : Shape := ⟨1, ![1]⟩
abbrev S1x1 : Shape := ⟨2, ![1, 1]⟩

abbrev nBuf : Space → Nat
  | .hbm => 84
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S256x256, .f32⟩
  | .hbm, ⟨2, _⟩ => ⟨S2x256, .f32⟩
  | .hbm, ⟨3, _⟩ => ⟨S65536x256, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S65536x1, .f32⟩
  | .hbm, ⟨8, _⟩ => ⟨S_, .f32⟩
  | .hbm, ⟨9, _⟩ => ⟨S65536x1, .f32⟩
  | .hbm, ⟨10, _⟩ => ⟨S65536x1, .f32⟩
  | .hbm, ⟨11, _⟩ => ⟨S65536x256, .f32⟩
  | .hbm, ⟨12, _⟩ => ⟨S65536x256, .f32⟩
  | .hbm, ⟨13, _⟩ => ⟨S65536x256, .f32⟩
  | .hbm, ⟨14, _⟩ => ⟨S65536x256, .f32⟩
  | .hbm, ⟨15, _⟩ => ⟨S_, .f32⟩
  | .hbm, ⟨16, _⟩ => ⟨S65536, .f32⟩
  | .hbm, ⟨17, _⟩ => ⟨S65536x1, .f32⟩
  | .hbm, ⟨18, _⟩ => ⟨S256x2, .f32⟩
  | .hbm, ⟨19, _⟩ => ⟨S65536x2, .f32⟩
  | .hbm, ⟨20, _⟩ => ⟨S_, .f32⟩
  | .hbm, ⟨21, _⟩ => ⟨S65536x2, .f32⟩
  | .hbm, ⟨22, _⟩ => ⟨S65536x2, .f32⟩
  | .hbm, ⟨23, _⟩ => ⟨S65536x2, .f32⟩
  | .hbm, ⟨24, _⟩ => ⟨S65536x2, .f32⟩
  | .hbm, ⟨25, _⟩ => ⟨S2x256, .f32⟩
  | .hbm, ⟨26, _⟩ => ⟨S_, .f32⟩
  | .hbm, ⟨27, _⟩ => ⟨S2, .f32⟩
  | .hbm, ⟨28, _⟩ => ⟨S1x2, .f32⟩
  | .hbm, ⟨29, _⟩ => ⟨S65536x2, .f32⟩
  | .hbm, ⟨30, _⟩ => ⟨S65536x2, .f32⟩
  | .hbm, ⟨31, _⟩ => ⟨S65536x2, .i32⟩
  | .hbm, ⟨32, _⟩ => ⟨S_, .f32⟩
  | .hbm, ⟨33, _⟩ => ⟨S_, .i32⟩
  | .hbm, ⟨34, _⟩ => ⟨S65536, .f32⟩
  | .hbm, ⟨35, _⟩ => ⟨S65536, .i32⟩
  | .hbm, ⟨36, _⟩ => ⟨S_, .i32⟩
  | .hbm, ⟨37, _⟩ => ⟨S65536, .i32⟩
  | .hbm, ⟨38, _⟩ => ⟨S65536, .i1⟩
  | .hbm, ⟨39, _⟩ => ⟨S_, .i32⟩
  | .hbm, ⟨40, _⟩ => ⟨S65536, .i32⟩
  | .hbm, ⟨41, _⟩ => ⟨S65536, .i32⟩
  | .hbm, ⟨42, _⟩ => ⟨S65536, .i32⟩
  | .hbm, ⟨43, _⟩ => ⟨S65536x1, .i32⟩
  | .hbm, ⟨44, _⟩ => ⟨S1, .i32⟩
  | .hbm, ⟨45, _⟩ => ⟨S_, .i32⟩
  | .hbm, ⟨46, _⟩ => ⟨S65536x1, .i32⟩
  | .hbm, ⟨47, _⟩ => ⟨S65536x1, .i1⟩
  | .hbm, ⟨48, _⟩ => ⟨S1x1, .i32⟩
  | .hbm, ⟨49, _⟩ => ⟨S65536x1, .i32⟩
  | .hbm, ⟨50, _⟩ => ⟨S65536x1, .i1⟩
  | .hbm, ⟨51, _⟩ => ⟨S65536x1, .i1⟩
  | .hbm, ⟨52, _⟩ => ⟨S_, .i1⟩
  | .hbm, ⟨53, _⟩ => ⟨S65536, .i1⟩
  | .hbm, ⟨54, _⟩ => ⟨S65536x256, .f32⟩
  | .hbm, ⟨55, _⟩ => ⟨S65536x256, .i1⟩
  | .hbm, ⟨56, _⟩ => ⟨S_, .f32⟩
  | .hbm, ⟨57, _⟩ => ⟨S65536x256, .f32⟩
  | .hbm, ⟨58, _⟩ => ⟨S65536x256, .f32⟩
  | .hbm, ⟨59, _⟩ => ⟨S65536x256, .f32⟩
  | .hbm, ⟨60, _⟩ => ⟨S_, .f32⟩
  | .hbm, ⟨61, _⟩ => ⟨S65536x256, .f32⟩
  | .hbm, ⟨62, _⟩ => ⟨S65536x256, .i1⟩
  | .hbm, ⟨63, _⟩ => ⟨S65536x256, .f32⟩
  | .hbm, ⟨64, _⟩ => ⟨S_, .f32⟩
  | .hbm, ⟨65, _⟩ => ⟨S65536x256, .f32⟩
  | .hbm, ⟨66, _⟩ => ⟨S65536x256, .f32⟩
  | .hbm, ⟨67, _⟩ => ⟨S_, .f32⟩
  | .hbm, ⟨68, _⟩ => ⟨S65536x256, .f32⟩
  | .hbm, ⟨69, _⟩ => ⟨S65536x256, .f32⟩
  | .hbm, ⟨70, _⟩ => ⟨S65536x256, .f32⟩
  | .hbm, ⟨71, _⟩ => ⟨S_, .f32⟩
  | .hbm, ⟨72, _⟩ => ⟨S65536, .f32⟩
  | .hbm, ⟨73, _⟩ => ⟨S_, .f32⟩
  | .hbm, ⟨74, _⟩ => ⟨S65536, .f32⟩
  | .hbm, ⟨75, _⟩ => ⟨S65536, .f32⟩
  | .hbm, ⟨76, _⟩ => ⟨S65536x1, .f32⟩
  | .hbm, ⟨77, _⟩ => ⟨S65536x256, .f32⟩
  | .hbm, ⟨78, _⟩ => ⟨S65536x256, .f32⟩
  | .hbm, ⟨79, _⟩ => ⟨S65536x256, .f32⟩
  | .hbm, ⟨80, _⟩ => ⟨S256x256, .f32⟩
  | .hbm, ⟨81, _⟩ => ⟨S65536x256, .f32⟩
  | .hbm, ⟨82, _⟩ => ⟨S65536x256, .f32⟩
  | .hbm, ⟨83, _⟩ => ⟨S65536x256, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call1_v0 : Ref sig .tc := ⟨.hbm, 31, rfl⟩
abbrev main_call1_cst : Ref sig .tc := ⟨.hbm, 32, rfl⟩
abbrev main_call1_c : Ref sig .tc := ⟨.hbm, 33, rfl⟩
abbrev main_call1_v1_0 : Ref sig .tc := ⟨.hbm, 34, rfl⟩
abbrev main_v20 : Ref sig .tc := ⟨.hbm, 35, rfl⟩
abbrev main_call2_c : Ref sig .tc := ⟨.hbm, 36, rfl⟩
abbrev main_call2_v0 : Ref sig .tc := ⟨.hbm, 37, rfl⟩
abbrev main_call2_v1 : Ref sig .tc := ⟨.hbm, 38, rfl⟩
abbrev main_call2_c_0 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_v5 : Ref sig .tc := ⟨.hbm, 43, rfl⟩
abbrev main_call2_c_1 : Ref sig .tc := ⟨.hbm, 44, rfl⟩
abbrev main_call2_c_2 : Ref sig .tc := ⟨.hbm, 45, rfl⟩
abbrev main_call2_v6 : Ref sig .tc := ⟨.hbm, 46, rfl⟩
abbrev main_call2_v7 : Ref sig .tc := ⟨.hbm, 47, rfl⟩
abbrev main_call2_v8 : Ref sig .tc := ⟨.hbm, 48, rfl⟩
abbrev main_call2_v9 : Ref sig .tc := ⟨.hbm, 49, rfl⟩
abbrev main_call2_v10 : Ref sig .tc := ⟨.hbm, 50, rfl⟩
abbrev main_call2_v11 : Ref sig .tc := ⟨.hbm, 51, rfl⟩
abbrev main_call2_c_3 : Ref sig .tc := ⟨.hbm, 52, rfl⟩
abbrev main_call2_v12 : Ref sig .tc := ⟨.hbm, 53, rfl⟩
abbrev main_call2_v13 : Ref sig .tc := ⟨.hbm, 54, rfl⟩
abbrev main_call2_v14 : Ref sig .tc := ⟨.hbm, 55, rfl⟩
abbrev main_call2_cst : Ref sig .tc := ⟨.hbm, 56, rfl⟩
abbrev main_call2_v15 : Ref sig .tc := ⟨.hbm, 57, rfl⟩
abbrev main_v21 : Ref sig .tc := ⟨.hbm, 58, rfl⟩
abbrev main_v22 : Ref sig .tc := ⟨.hbm, 59, rfl⟩
abbrev main_cst_3 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_cst_4 : Ref sig .tc := ⟨.hbm, 64, rfl⟩
abbrev main_v26 : Ref sig .tc := ⟨.hbm, 65, rfl⟩
abbrev main_v27 : Ref sig .tc := ⟨.hbm, 66, rfl⟩
abbrev main_cst_5 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_cst_6 : Ref sig .tc := ⟨.hbm, 71, rfl⟩
abbrev main_v31 : Ref sig .tc := ⟨.hbm, 72, rfl⟩
abbrev main_cst_7 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩

abbrev nD : Nat := 1
abbrev τ : Topo := Topo.v7x

variable {F : FTy → Type} [FloatOps F]
-- ==== Proof.RowMath.lean ====
module

public import Idealize.ShloMosaic.PureOps.Ideal
public import Idealize.ShloMosaic.PureOps.Ideal.Laws
public import Idealize.ShloMosaic.Lib.Pointwise
public import Mathlib.Tactic.Linarith

@[expose] public section
noncomputable section

/-! # One row of the result, as the kernel and as the reference compute it

Everything the two programs do is done row by row. A row is a function `x` of its 256 columns, `R` the square table,
`c` the two centroids. All values are extended reals. -/

namespace Cert.Proof.RowMath

open Idealize.ShloMosaic

/-- The constant both programs add to a row's length. -/
def eps : EReal := Ideal.ofBits .f32 0x322BCC77#32

/-- The constant 2, as both programs write it. -/
def two : EReal := Ideal.ofBits .f32 0x40000000#32

/-- The length of a row. -/
def len (x : Fin 256 → EReal) : EReal := Ideal.sqrt (∑ k, x k * x k)

/-! ## The kernel's row -/

/-- The kernel's rotated row: every entry times the reciprocal of the length, times the table. -/
def kRot (x : Fin 256 → EReal) (R : Fin 256 → Fin 256 → EReal) (j : Fin 256) : EReal :=
  ∑ k, x k * Ideal.div 1 (len x + eps) * R k j

/-- The kernel's score of centroid `i` for the rotated row `q`: the distance without the term all centroids share. -/
def kScore (q : Fin 256 → EReal) (c : Fin 2 → Fin 256 → EReal) (i : Fin 2) : EReal :=
  (∑ k, c i k * c i k) - two * ∑ k, q k * c i k

/-- The centroid the kernel chooses. -/
def kSel (q : Fin 256 → EReal) (c : Fin 2 → Fin 256 → EReal) (k : Fin 256) : EReal :=
  if kScore q c 1 < kScore q c 0 then c 1 k else c 0 k

/-- The kernel's result from the rotated row `q`: the chosen centroid turned back, plus the mean size of the residual
    times its signs turned back, times the length `n`. -/
def kOut (q : Fin 256 → EReal) (R : Fin 256 → Fin 256 → EReal) (c : Fin 2 → Fin 256 → EReal) (n : EReal)
    (j : Fin 256) : EReal :=
  ((if kScore q c 1 < kScore q c 0 then ∑ k, c 1 k * R j k else ∑ k, c 0 k * R j k)
    + (∑ k, max (q k - kSel q c k) (-(q k - kSel q c k)) * Ideal.ofBits .bf16 0x3B80#16)
      * ∑ k, (if q k - kSel q c k < 0 then Ideal.ofBits .bf16 0xBF80#16 else 1) * R j k) * n

/-- The kernel's row. -/
def kRow (x : Fin 256 → EReal) (R : Fin 256 → Fin 256 → EReal) (c : Fin 2 → Fin 256 → EReal) (j : Fin 256) : EReal :=
  kOut (kRot x R) R c (len x) j

/-! ## The reference's row -/

/-- The reference's rotated row: every entry divided by the length, times the table. -/
def rRot (x : Fin 256 → EReal) (R : Fin 256 → Fin 256 → EReal) (j : Fin 256) : EReal :=
  ∑ k, Ideal.div (x k) (len x + eps) * R k j

/-- The reference's squared distance of the rotated row `q` to centroid `i`. -/
def rDist (q : Fin 256 → EReal) (c : Fin 2 → Fin 256 → EReal) (i : Fin 2) : EReal :=
  (∑ k, q k * q k) - two * (∑ k, q k * c i k) + ∑ k, c i k * c i k

/-- The centroid the reference chooses. -/
def rSel (q : Fin 256 → EReal) (c : Fin 2 → Fin 256 → EReal) (k : Fin 256) : EReal :=
  if rDist q c 1 < rDist q c 0 then c 1 k else c 0 k

/-- The reference's reconstruction in rotated space: the chosen centroid `s` plus the mean size of the residual `d`
    times the residual's sign, which is one bit spread to `-1` and `1`. -/
def rBuilt (s d : Fin 256 → EReal) (k : Fin 256) : EReal :=
  s k + Ideal.div (∑ l, max (d l) (-(d l))) (Ideal.ofBits .f32 0x43800000#32)
    * ((if 0 ≤ d k then 1 else 0) * two - 1)

/-- The reference's result from the rotated row `q`: the reconstruction turned back, times the length `n`. -/
def rOut (q : Fin 256 → EReal) (R : Fin 256 → Fin 256 → EReal) (c : Fin 2 → Fin 256 → EReal) (n : EReal)
    (j : Fin 256) : EReal :=
  (∑ k, rBuilt (rSel q c) (fun l => q l - rSel q c l) k * R j k) * n

/-- The reference's row. -/
def rRow (x : Fin 256 → EReal) (R : Fin 256 → Fin 256 → EReal) (c : Fin 2 → Fin 256 → EReal) (j : Fin 256) : EReal :=
  rOut (rRot x R) R c (len x) j

/-! ## The constants -/

/-- `eps` is a positive real. -/
theorem eps_pos : ∃ e : ℝ, 0 < e ∧ eps = (e : EReal) := by
  refine ⟨_, ?_, by simp only [eps, Ideal.ofBits, Ideal.ieee]; simp [-EReal.coe_mul]; rfl⟩
  norm_num

theorem two_eq : two = ((2 : ℝ) : EReal) := by
  simp [two, Ideal.ofBits, Ideal.ieee, -EReal.coe_mul]; norm_num

theorem ofBits_256 : Ideal.ofBits .f32 0x43800000#32 = ((256 : ℝ) : EReal) := by
  simp [Ideal.ofBits, Ideal.ieee, -EReal.coe_mul]; norm_num

theorem ofBits_inv_256 : Ideal.ofBits .bf16 0x3B80#16 = ((1 / 256 : ℝ) : EReal) := by
  simp [Ideal.ofBits, Ideal.ieee, -EReal.coe_mul]; norm_num

theorem ofBits_neg_one : Ideal.ofBits .bf16 0xBF80#16 = ((-1 : ℝ) : EReal) := by
  simp [Ideal.ofBits, Ideal.ieee, -EReal.coe_mul]; norm_num

/-! ## The rotated rows agree and are finite -/

/-- A square is not negative. -/
theorem sq_nonneg' (a : EReal) : 0 ≤ a * a := by
  induction a using EReal.rec with
  | bot => simp
  | top => simp
  | coe r => rw [← EReal.coe_mul]; exact EReal.coe_nonneg.2 (mul_self_nonneg r)

/-- The sum of the squares of a row is not negative. -/
theorem sumsq_nonneg (x : Fin 256 → EReal) : 0 ≤ ∑ k, x k * x k :=
  Finset.sum_nonneg fun k _ => sq_nonneg' (x k)

/-- A finite sum of reals is a real. -/
theorem coe_sum {n : Nat} (f : Fin n → ℝ) : ∑ k, (f k : EReal) = ((∑ k, f k : ℝ) : EReal) := by
  induction (Finset.univ : Finset (Fin n)) using Finset.cons_induction with
  | empty => simp
  | cons a s h ih => rw [Finset.sum_cons, Finset.sum_cons, ih, EReal.coe_add]

/-- The length of a row is `⊤` or a real not below zero, and the second when all its entries are real. -/
theorem len_cases (x : Fin 256 → EReal) :
    len x = ⊤ ∨ ((∃ n : ℝ, 0 ≤ n ∧ len x = (n : EReal)) ∧ ∃ x' : Fin 256 → ℝ, ∀ k, x k = (x' k : EReal)) := by
  by_cases h : ∀ k, x k ≠ ⊤ ∧ x k ≠ ⊥
  · right
    have hx : ∀ k, x k = ((x k).toReal : EReal) := fun k => (EReal.coe_toReal (h k).1 (h k).2).symm
    refine ⟨⟨Real.sqrt (∑ k, (x k).toReal * (x k).toReal), Real.sqrt_nonneg _, ?_⟩, fun k => (x k).toReal, hx⟩
    have hs : ∑ k, x k * x k = ((∑ k, (x k).toReal * (x k).toReal : ℝ) : EReal) := by
      rw [← coe_sum]
      exact Finset.sum_congr rfl fun k _ => by rw [EReal.coe_mul, ← hx k]
    have hn : ¬ (∑ k, (x k).toReal * (x k).toReal) < 0 :=
      not_lt.2 (Finset.sum_nonneg fun k _ => mul_self_nonneg _)
    rw [len, hs]
    exact if_neg hn
  · left
    push Not at h
    obtain ⟨k, hk⟩ := h
    have ht : x k * x k = ⊤ := by
      by_cases h1 : x k = ⊤
      · rw [h1]; rfl
      · rw [hk h1]; rfl
    have hs : ∑ k, x k * x k = ⊤ := by
      refine top_le_iff.1 ?_
      rw [← ht]
      exact Finset.single_le_sum (f := fun k => x k * x k) (fun k _ => sq_nonneg' (x k)) (Finset.mem_univ k)
    rw [len, hs]
    rfl

/-- Dividing an entry by the length plus `eps` gives a real, and multiplying by the reciprocal gives the same. -/
theorem normalised (x : Fin 256 → EReal) (k : Fin 256) :
    (∃ a : ℝ, Ideal.div (x k) (len x + eps) = (a : EReal))
      ∧ x k * Ideal.div 1 (len x + eps) = Ideal.div (x k) (len x + eps) := by
  obtain ⟨e, he, hE⟩ := eps_pos
  rcases len_cases x with h | ⟨⟨n, hn, h⟩, x', hx⟩
  · have hy : len x + eps = ⊤ := by rw [h, hE]; rfl
    rw [hy]
    simp only [Ideal.div, EReal.top_ne_zero, if_false, EReal.inv_top, mul_zero]
    exact ⟨⟨0, rfl⟩, trivial⟩
  · have hy : len x + eps = ((n + e : ℝ) : EReal) := by rw [h, hE, EReal.coe_add]
    have h0 : n + e ≠ 0 := by positivity
    rw [hy, Ideal.div_coe h0, Ideal.div_coe h0, one_mul, hx k]
    exact ⟨⟨x' k * (1 / (n + e)), by rw [EReal.coe_mul]⟩, rfl⟩

/-- The two rotated rows are the same. -/
theorem kRot_eq_rRot (x : Fin 256 → EReal) (R : Fin 256 → Fin 256 → EReal) : kRot x R = rRot x R := by
  funext j
  exact Finset.sum_congr rfl fun k _ => by rw [(normalised x k).2]

/-- With a table of reals the rotated row is real, whatever the row holds. -/
theorem rRot_real (x : Fin 256 → EReal) (R : Fin 256 → Fin 256 → ℝ) :
    ∃ q : Fin 256 → ℝ, rRot x (fun i j => (R i j : EReal)) = fun j => (q j : EReal) := by
  choose a ha using fun k => (normalised x k).1
  refine ⟨fun j => ∑ k, a k * R k j, funext fun j => ?_⟩
  rw [← coe_sum]
  exact Finset.sum_congr rfl fun k _ => by rw [ha k, EReal.coe_mul]

/-! ## The two results agree on real values -/

section Real
variable (q : Fin 256 → ℝ) (R : Fin 256 → Fin 256 → ℝ) (c : Fin 2 → Fin 256 → ℝ)

/-- The scores of the kernel are reals. -/
theorem kScore_real (i : Fin 2) :
    kScore (fun k => (q k : EReal)) (fun i k => (c i k : EReal)) i
      = (((∑ k, c i k * c i k) - 2 * ∑ k, q k * c i k : ℝ) : EReal) := by
  simp only [kScore, two_eq, ← EReal.coe_mul, coe_sum, ← EReal.coe_sub]

/-- The distances of the reference are reals. -/
theorem rDist_real (i : Fin 2) :
    rDist (fun k => (q k : EReal)) (fun i k => (c i k : EReal)) i
      = (((∑ k, q k * q k) - 2 * (∑ k, q k * c i k) + ∑ k, c i k * c i k : ℝ) : EReal) := by
  simp only [rDist, two_eq, ← EReal.coe_mul, coe_sum, ← EReal.coe_sub, ← EReal.coe_add]

/-- The second centroid has the smaller score exactly when it is the nearer one. -/
theorem score_lt_iff :
    kScore (fun k => (q k : EReal)) (fun i k => (c i k : EReal)) 1
        < kScore (fun k => (q k : EReal)) (fun i k => (c i k : EReal)) 0
      ↔ rDist (fun k => (q k : EReal)) (fun i k => (c i k : EReal)) 1
        < rDist (fun k => (q k : EReal)) (fun i k => (c i k : EReal)) 0 := by
  rw [kScore_real, kScore_real, rDist_real, rDist_real, EReal.coe_lt_coe_iff, EReal.coe_lt_coe_iff]
  constructor <;> intro h <;> linarith

/-- The kernel's result is the reference's, from a real rotated row. -/
theorem kOut_eq_rOut (n : EReal) (j : Fin 256) :
    kOut (fun k => (q k : EReal)) (fun i k => (R i k : EReal)) (fun i k => (c i k : EReal)) n j
      = rOut (fun k => (q k : EReal)) (fun i k => (R i k : EReal)) (fun i k => (c i k : EReal)) n j := by
  obtain ⟨i, hk, hr, hs⟩ : ∃ i : Fin 2,
      (∀ k, kSel (fun k => (q k : EReal)) (fun i k => (c i k : EReal)) k = (c i k : EReal))
      ∧ (∀ k, rSel (fun k => (q k : EReal)) (fun i k => (c i k : EReal)) k = (c i k : EReal))
      ∧ (if kScore (fun k => (q k : EReal)) (fun i k => (c i k : EReal)) 1
            < kScore (fun k => (q k : EReal)) (fun i k => (c i k : EReal)) 0
          then ∑ k, (c 1 k : EReal) * (R j k : EReal) else ∑ k, (c 0 k : EReal) * (R j k : EReal))
        = ∑ k, (c i k : EReal) * (R j k : EReal) := by
    by_cases h : kScore (fun k => (q k : EReal)) (fun i k => (c i k : EReal)) 1
        < kScore (fun k => (q k : EReal)) (fun i k => (c i k : EReal)) 0
    · exact ⟨1, fun k => if_pos h, fun k => if_pos ((score_lt_iff q c).1 h), if_pos h⟩
    · exact ⟨0, fun k => if_neg h, fun k => if_neg (fun h' => h ((score_lt_iff q c).2 h')), if_neg h⟩
  have habs : ∀ a : ℝ, max (a : EReal) (-(a : EReal)) = ((|a| : ℝ) : EReal) := fun a => by
    rw [← EReal.coe_neg]; exact (EReal.coe_strictMono.monotone.map_max (a := a) (b := -a)).symm
  have hsign : ∀ a : ℝ, (if (a : EReal) < 0 then ((-1 : ℝ) : EReal) else 1)
      = ((if 0 ≤ a then (1 : ℝ) else -1 : ℝ) : EReal) := fun a => by
    by_cases h : 0 ≤ a
    · rw [if_pos h, if_neg (not_lt.2 (EReal.coe_nonneg.2 h))]; rfl
    · rw [if_neg h, if_pos (EReal.coe_neg'.2 (not_le.1 h))]
  have hbit : ∀ a : ℝ, (if 0 ≤ (a : EReal) then (1 : EReal) else 0) * ((2 : ℝ) : EReal) - 1
      = ((if 0 ≤ a then (1 : ℝ) else -1 : ℝ) : EReal) := fun a => by
    by_cases h : 0 ≤ a
    · rw [if_pos h, if_pos (EReal.coe_nonneg.2 h), one_mul, ← EReal.coe_one, ← EReal.coe_sub]; norm_num
    · rw [if_neg h, if_neg (fun h' => h (EReal.coe_nonneg.1 h')), zero_mul, zero_sub]; rfl
  unfold kOut rOut
  rw [hs]
  congr 1
  simp only [rBuilt, hk, hr, two_eq, ofBits_256, ofBits_inv_256, ofBits_neg_one, ← EReal.coe_sub, habs, hsign, hbit,
    coe_sum, Ideal.div_coe (show (256 : ℝ) ≠ 0 by norm_num), ← EReal.coe_mul, ← EReal.coe_add]
  congr 1
  rw [← Finset.sum_mul, Finset.mul_sum, ← Finset.sum_add_distrib]
  exact Finset.sum_congr rfl fun k _ => by ring

end Real

/-- THE EQUATION OF A ROW. When the table and the centroids are real, the kernel's row is the reference's row; the row
    itself may hold any extended reals. -/
theorem kRow_eq_rRow (x : Fin 256 → EReal) (R : Fin 256 → Fin 256 → EReal) (c : Fin 2 → Fin 256 → EReal)
    (hR : ∀ i k, R i k ≠ ⊤ ∧ R i k ≠ ⊥) (hc : ∀ i k, c i k ≠ ⊤ ∧ c i k ≠ ⊥) (j : Fin 256) :
    kRow x R c j = rRow x R c j := by
  obtain ⟨R', rfl⟩ : ∃ R' : Fin 256 → Fin 256 → ℝ, R = fun i k => (R' i k : EReal) :=
    ⟨fun i k => (R i k).toReal, funext fun i => funext fun k => (EReal.coe_toReal (hR i k).1 (hR i k).2).symm⟩
  obtain ⟨c', rfl⟩ : ∃ c' : Fin 2 → Fin 256 → ℝ, c = fun i k => (c' i k : EReal) :=
    ⟨fun i k => (c i k).toReal, funext fun i => funext fun k => (EReal.coe_toReal (hc i k).1 (hc i k).2).symm⟩
  obtain ⟨q, hq⟩ := rRot_real x R'
  rw [kRow, rRow, kRot_eq_rRot, hq]
  exact kOut_eq_rOut q R' c' (len x) j

end Cert.Proof.RowMath

end
-- ==== Proof.KernelRow.lean ====
module

public import proofs.«01_k».proof.Proof.Gen.KernelIdeal.Skeleton
public import proofs.«01_k».proof.Proof.RowMath
public import Idealize.ShloMosaic.Lib.Pointwise

@[expose] public section
set_option maxRecDepth 16384
noncomputable section

/-! # What the kernel's body computes from one block, read at a row and a column

The body works on 4096 rows of the first array at a time, the whole table and the two centroids. -/

namespace Cert.Proof.KernelRow
open Idealize.ShloMosaic Idealize.ShloMosaic.TcCoe Idealize.SL.Sem
open Cert.Proof.RowMath Cert.KernelIdeal Cert.KernelIdeal.Gen

/-- The column of lengths, at row `r`. -/
theorem length_at (v0 : FVec Ideal S4096x256 .f32) (r : Fin 4096) (l : Fin 1) :
    k0_pay4 (F := Ideal) v0 (ix2 r l) = len (fun k => v0 (ix2 r k)) := by
  pointwise [k0_pay4, len]

/-- The rotated block, at row `r` and column `l`. -/
theorem rotated_at (v0 : FVec Ideal S4096x256 .f32) (v1 : FVec Ideal S256x256 .f32) (r : Fin 4096) (l : Fin 256) :
    k0_pay5 (F := Ideal) v0 v1 (ix2 r l)
      = kRot (fun k => v0 (ix2 r k)) (fun i k => v1 (ix2 i k)) l := by
  pointwise [k0_pay5, kRot, eps, length_at]

/-- The bit that says the second centroid is the nearer one, at row `r`. -/
theorem second_at (v0 : FVec Ideal S4096x256 .f32) (v1 : FVec Ideal S256x256 .f32) (v2 : FVec Ideal S2x256 .f32)
    (r : Fin 4096) (l : Fin 1) :
    k0_pay6 (F := Ideal) v0 v1 v2 (ix2 r l)
      = BitVec.ofBool (decide
          (kScore (kRot (fun k => v0 (ix2 r k)) (fun i k => v1 (ix2 i k))) (fun i k => v2 (ix2 i k)) 1
            < kScore (kRot (fun k => v0 (ix2 r k)) (fun i k => v1 (ix2 i k))) (fun i k => v2 (ix2 i k)) 0)) := by
  pointwise [k0_pay6, kScore, two, rotated_at]

/-- A selection by the bit of a decision is the choice by that decision. -/
theorem select_ofBool {α : Type} (p : Prop) [Decidable p] (a b : α) :
    Scalar.select (BitVec.ofBool (decide p)) a b = if p then a else b := by
  by_cases h : p <;> simp [Scalar.select, h]

/-- The chosen centroid, at row `r` and column `l`. -/
theorem selected_at (v0 : FVec Ideal S4096x256 .f32) (v1 : FVec Ideal S256x256 .f32) (v2 : FVec Ideal S2x256 .f32)
    (r : Fin 4096) (l : Fin 256) :
    k0_pay7 (F := Ideal) v0 v1 v2 (ix2 r l)
      = kSel (kRot (fun k => v0 (ix2 r k)) (fun i k => v1 (ix2 i k))) (fun i k => v2 (ix2 i k)) l := by
  pointwise [k0_pay7, kSel, second_at, select_ofBool]

/-- The block the body stores, at row `r` and column `l`: the kernel's row of `RowMath`. -/
theorem stored_at (v0 : FVec Ideal S4096x256 .f32) (v1 : FVec Ideal S256x256 .f32) (v2 : FVec Ideal S2x256 .f32)
    (r : Fin 4096) (l : Fin 256) :
    k0_pay1 (F := Ideal) (k0_pay2 v1) (k0_pay3 v1 v2) (k0_pay4 v0) (k0_pay5 v0 v1)
        (k0_pay6 (F := Ideal) v0 v1 v2) (k0_pay7 v0 v1 v2) (ix2 r l)
      = kRow (fun k => v0 (ix2 r k)) (fun i k => v1 (ix2 i k)) (fun i k => v2 (ix2 i k)) l := by
  pointwise [k0_pay1, k0_pay2, k0_pay3, kRow, kOut, selected_at, second_at, select_ofBool, rotated_at, length_at]
  rfl

end Cert.Proof.KernelRow

end
-- ==== Proof.KernelArray.lean ====
module

public import proofs.«01_k».proof.Proof.Gen.KernelIdeal.Value
public import proofs.«01_k».proof.Proof.KernelRow
public import Idealize.ShloMosaic.Lib.Pipeline.ValueKit

@[expose] public section
set_option maxRecDepth 16384
noncomputable section

/-! # What the kernel's result array holds after its run

Grid point `t` reads rows `4096 t` to `4096 t + 4095` of the first array, and the whole table and centroids; it writes
the same rows of the result. -/

namespace Cert.Proof.KernelArray

open Idealize.ShloMosaic Idealize.ShloMosaic.TcCoe Idealize.SL.Sem
open Idealize.ShloMosaic.Pipeline (Dat)
open Cert.Proof.RowMath Cert.KernelIdeal Cert.KernelIdeal.Gen

/-- The array whose every row is the kernel's row. -/
def rows (x : FVec Ideal S65536x256 .f32) (R : FVec Ideal S256x256 .f32) (c : FVec Ideal S2x256 .f32) :
    FVec Ideal S65536x256 .f32 := fun i =>
  kRow (fun k => x (ix2 (i 0) k)) (fun a k => R (ix2 a k)) (fun a k => c (ix2 a k)) (i 1)

variable (m : (ℓ : Loc nD τ sig) → Buf (Elt Ideal) ℓ)

/-- Which block each window is on at grid point `t`. -/
theorem idx : ∀ t : Fin cfg0.N, win0_0.index t = ![t.val, 0] ∧ win0_1.index t = ![0, 0] ∧ win0_2.index t = ![0, 0]
    ∧ win0_3.index t = ![t.val, 0] :=
  (by decide +kernel : ∀ t : Fin grid0.N, win0_0.index t = ![t.val, 0] ∧ win0_1.index t = ![0, 0]
    ∧ win0_2.index t = ![0, 0] ∧ win0_3.index t = ![t.val, 0])

/-- The body's result at grid point `t`, entry by entry, is the array of rows read through the block of `t`. -/
theorem point (c : Dev nD) (t : Fin cfg0.N) (y : S4096x256.Idx) :
    k0_pay1 (F := Ideal) (k0_pay2 (iblk m c 1 t)) (k0_pay3 (iblk m c 1 t) (iblk m c 2 t)) (k0_pay4 (iblk m c 0 t))
        (k0_pay5 (iblk m c 0 t) (iblk m c 1 t)) (k0_pay6 (F := Ideal) (iblk m c 0 t) (iblk m c 1 t) (iblk m c 2 t))
        (k0_pay7 (iblk m c 0 t) (iblk m c 1 t) (iblk m c 2 t)) y
      = rows (m ((c : Thread nD τ).loc main_arg0)) (m ((c : Thread nD τ).loc main_arg1))
          (m ((c : Thread nD τ).loc main_arg2)) (((cfg0.win 3).blk t).view.emb y) := by
  idx_vars y
  rw [KernelRow.stored_at]
  have h0 : ∀ k : Fin 256, iblk m c 0 t (ix2 y0 k)
      = m ((c : Thread nD τ).loc main_arg0) (ix2 (((cfg0.win 3).blk t).view.emb (ix2 y0 y1) 0) k) := fun k => by
    blk_point [iblk, V, idx t]
  have h1 : ∀ a k : Fin 256, iblk m c 1 t (ix2 a k) = m ((c : Thread nD τ).loc main_arg1) (ix2 a k) := fun a k => by
    blk_point [iblk, V, idx t]
  have h2 : ∀ (a : Fin 2) (k : Fin 256), iblk m c 2 t (ix2 a k) = m ((c : Thread nD τ).loc main_arg2) (ix2 a k) :=
    fun a k => by blk_point [iblk, V, idx t]
  have h3 : y1 = ((cfg0.win 3).blk t).view.emb (ix2 y0 y1) 1 := by
    refine Fin.ext ?_
    blk_ext [idx t]
  simp only [h0, h1, h2]
  unfold rows
  exact congrArg _ h3

/-- After the run the result array is the array of rows. -/
theorem final (c : Dev nD) :
    (dats m 0 c).arrAt 3 cfg0.N
      = rows (m ((c : Thread nD τ).loc main_arg0)) (m ((c : Thread nD τ).loc main_arg1))
          (m ((c : Thread nD τ).loc main_arg2)) := by
  refine (dats m 0 c).arrAt_eq_of_covers 3 _ (by decide +kernel) fun t _ y => ?_
  blk_simp
  rw [after0_3]
  frame_out
  exact point m c t y

end Cert.Proof.KernelArray

end
-- ==== Proof.ReferenceTerm.lean ====
module

public import proofs.«01_k».proof.Proof.Gen.ReferenceIdeal
public import Idealize.ShloMosaic.Lib.Pointwise
public import Idealize.ShloMosaic.Lib.Claim
public import Idealize.ShloMosaic.Adequacy
public import Idealize.ShloMosaic.Init

@[expose] public section
set_option maxRecDepth 16384
noncomputable section
namespace Cert.Proof.ReferenceTerm
open Idealize.ShloMosaic Idealize.ShloMosaic.TcCoe Idealize.SL.Sem
open Cert.ReferenceIdeal Cert.ReferenceIdeal.Gen

/-- The lengths of the rows, as a column. -/
def lengths (x : FVec Ideal S65536x256 .f32) : FVec Ideal S65536x1 .f32 :=
  Host.sqrt (broadcastInDim S65536x1 ![0] bcast_S65536_S65536x1_0
    (Host.reduceAdd (mulf x x) (constant S_ .f32 0x00000000#32) reducesTo_S65536x256_S65536_d1 h_S_))

/-- The normalised rows times the table `R`. -/
def rotated (x : FVec Ideal S65536x256 .f32) (R : FVec Ideal S256x256 .f32) : FVec Ideal S65536x256 .f32 :=
  Host.dotGeneral dot_S65536x256_S256x256_S65536x256_1_0_0_1_n_n none
    (Host.divf x (broadcastInDim S65536x256 ![0, 1] bcast_S65536x1_S65536x256_0_1
      (addf (lengths x) (broadcastInDim S65536x1 ![] bcast_S_S65536x1 (constant S_ .f32 0x322BCC77#32))))) R

/-- The squared distances of every rotated row to the two centroids. -/
def distances (xr : FVec Ideal S65536x256 .f32) (c : FVec Ideal S2x256 .f32) : FVec Ideal S65536x2 .f32 :=
  addf
    (subf
      (broadcastInDim S65536x2 ![0, 1] bcast_S65536x1_S65536x2_0_1
      (broadcastInDim S65536x1 ![0] bcast_S65536_S65536x1_0
        (Host.reduceAdd (mulf xr xr) (constant S_ .f32 0x00000000#32) reducesTo_S65536x256_S65536_d1 h_S_)))
      (mulf (broadcastInDim S65536x2 ![] bcast_S_S65536x2 (constant S_ .f32 0x40000000#32))
      (Host.dotGeneral dot_S65536x256_S256x2_S65536x2_1_0_0_1_n_n none xr
        (transpose S256x2 [1, 0] c transposes_S2x256_S256x2_1_0))))
    (broadcastInDim S65536x2 ![0, 1] bcast_S1x2_S65536x2_0_1
      (broadcastInDim S1x2 ![1] bcast_S2_S1x2_1
      (Host.reduceAdd (mulf c c) (constant S_ .f32 0x00000000#32) reducesTo_S2x256_S2_d1 h_S_)))

/-- Which of the two distances is the least, the first of them on a tie. -/
def nearest (d : FVec Ideal S65536x2 .f32) : IVec S65536 32 := fun j =>
  (Host.argReduce reducer_argmin_f32_i32 d (iotaInDim S65536x2 32 1) (constant S_ .f32 0x7F800000#32)
    (constantI S_ 32 0#32) reducesTo_S65536x2_S65536_d1 h_S_ j).2

/-- The row numbers as the look-up reads them: a negative one counts from the end. -/
def wrapped (i : IVec S65536 32) : IVec S65536x1 32 :=
  broadcastInDim S65536x1 ![0] bcast_S65536_S65536x1_0
    (select (cmpi .slt i (broadcastInDim S65536 ![] bcast_S_S65536 (constantI S_ 32 0#32)))
      (addi i (broadcastInDim S65536 ![] bcast_S_S65536 (constantI S_ 32 2#32))) i)

/-- Whether a row number is inside the table of centroids. -/
def inside (w : IVec S65536x1 32) : IVec S65536 1 :=
  Host.reduce IntOp.andi
    (andi (cmpi .sge w (broadcastInDim S65536x1 ![] bcast_S_S65536x1 (constantI S_ 32 0#32)))
      (cmpi .sle w (broadcastInDim S65536x1 ![0, 1] bcast_S1x1_S65536x1_0_1
      (broadcastInDim S1x1 ![1] bcast_S1_S1x1_1 (constantI S1 32 1#32)))))
    (constantI S_ 1 1#1) reducesTo_S65536x1_S65536_d1 h_S_

/-- The rows of the table of centroids at the row numbers `i`. -/
def taken (c : FVec Ideal S2x256 .f32) (i : IVec S65536 32) : FVec Ideal S65536x256 .f32 :=
  select (broadcastInDim S65536x256 ![0] bcast_S65536_S65536x256_0 (inside (wrapped i)))
    (Host.gather gather_S2x256_S65536x1_S65536x256_1_0_n_n_0_1_1256 c (wrapped i))
    (broadcastInDim S65536x256 ![] bcast_S_S65536x256 (constant S_ .f32 0x7FC00000#32))

/-- The reconstruction in rotated space: the centroid plus the scaled signs of the residual `q`. -/
def rebuilt (s q : FVec Ideal S65536x256 .f32) : FVec Ideal S65536x256 .f32 :=
  addf s
    (mulf
      (broadcastInDim S65536x256 ![0, 1] bcast_S65536x1_S65536x256_0_1
      (broadcastInDim S65536x1 ![0] bcast_S65536_S65536x1_0
        (Host.divf
          (Host.reduceAdd (Host.absf q) (constant S_ .f32 0x00000000#32) reducesTo_S65536x256_S65536_d1 h_S_)
          (broadcastInDim S65536 ![] bcast_S_S65536 (constant S_ .f32 0x43800000#32)))))
      (subf
      (mulf
        (uitofp .f32 (cmpf .oge q (broadcastInDim S65536x256 ![] bcast_S_S65536x256 (constant S_ .f32 0x00000000#32))))
        (broadcastInDim S65536x256 ![] bcast_S_S65536x256 (constant S_ .f32 0x40000000#32)))
      (broadcastInDim S65536x256 ![] bcast_S_S65536x256 (constant S_ .f32 0x3F800000#32))))

/-- Turned back by the transpose of `R` and given its length again. -/
def restored (y : FVec Ideal S65536x256 .f32) (R : FVec Ideal S256x256 .f32) (n : FVec Ideal S65536x1 .f32) :
    FVec Ideal S65536x256 .f32 :=
  mulf
    (Host.dotGeneral dot_S65536x256_S256x256_S65536x256_1_0_0_1_n_n none y
      (transpose S256x256 [1, 0] R transposes_S256x256_S256x256_1_0))
    (broadcastInDim S65536x256 ![0, 1] bcast_S65536x1_S65536x256_0_1 n)

/-- The centroid the reference chooses for every row. -/
def chosen (x : FVec Ideal S65536x256 .f32) (R : FVec Ideal S256x256 .f32) (c : FVec Ideal S2x256 .f32) :
    FVec Ideal S65536x256 .f32 :=
  taken c (nearest (distances (rotated x R) c))

/-- The reference's result. -/
def result (x : FVec Ideal S65536x256 .f32) (R : FVec Ideal S256x256 .f32) (c : FVec Ideal S2x256 .f32) :
    FVec Ideal S65536x256 .f32 :=
  restored (rebuilt (chosen x R c) (subf (rotated x R) (chosen x R c))) R (lengths x)

set_option maxHeartbeats 1600000 in
/-- The reference runs from any memory; it leaves `result` of its arguments as its result, and its arguments as they
    were. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ d : Dev nD,
      r.2.mem ((d.tc : Thread nD τ).loc main_v41)
        = result (m ((d.tc : Thread nD τ).loc main_arg0)) (m ((d.tc : Thread nD τ).loc main_arg1))
            (m ((d.tc : Thread nD τ).loc main_arg2))
      ∧ r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)) := by
  hlo_run
  all_goals
    (simp only [StableHlo.TRef.ofBuf, StableHlo.TRef.toBuf, cast_eq]
     simp only [result, restored, rebuilt, chosen, taken, inside, wrapped, nearest, distances, rotated, lengths]
     try rfl)

end Cert.Proof.ReferenceTerm
end
-- ==== Proof.ReferenceRow.lean ====
module

public import proofs.«01_k».proof.Proof.ReferenceTerm
public import proofs.«01_k».proof.Proof.RowMath
public import Idealize.ShloMosaic.Lib.Routing.Ops
public import Mathlib.Data.List.Permutation

@[expose] public section
set_option maxRecDepth 16384
noncomputable section

/-! # What the reference computes, read at a row and a column -/

namespace Cert.Proof.ReferenceRow
open Idealize.ShloMosaic Idealize.ShloMosaic.TcCoe Idealize.SL.Sem
open Cert.Proof.RowMath Cert.ReferenceIdeal Cert.ReferenceIdeal.Gen Cert.Proof.ReferenceTerm

/-- The column of lengths, at row `r`. -/
theorem lengths_at (x : FVec Ideal S65536x256 .f32) (r : Fin 65536) (l : Fin 1) :
    lengths x (ix2 r l) = len (fun k => x (ix2 r k)) := by
  pointwise [lengths, len]

/-- The rotated array, at row `r` and column `l`. -/
theorem rotated_at (x : FVec Ideal S65536x256 .f32) (R : FVec Ideal S256x256 .f32) (r : Fin 65536) (l : Fin 256) :
    rotated x R (ix2 r l) = rRot (fun k => x (ix2 r k)) (fun i k => R (ix2 i k)) l := by
  pointwise [rotated, rRot, eps, lengths_at]

/-- The distance of row `r` to centroid `i`. -/
theorem distances_at (q : FVec Ideal S65536x256 .f32) (c : FVec Ideal S2x256 .f32) (r : Fin 65536) (i : Fin 2) :
    distances q c (ix2 r i) = rDist (fun k => q (ix2 r k)) (fun i k => c (ix2 i k)) i := by
  pointwise [distances, rDist, two]

/-- One step of the reducer: it keeps the smaller value, and on equal values the smaller index. -/
theorem reducer_step (a b : EReal) (i j : BitVec 32) :
    reducer_argmin_f32_i32 (F := Ideal) (a, i) (b, j)
      = (if a < b then a else b, if a < b ∨ (a = b ∧ BitVec.slt i j = true) then i else j) := by
  have hs : IntOp.cmpi .slt i j = BitVec.ofBool (BitVec.slt i j) := rfl
  by_cases h : a < b
  · simp [reducer_argmin_f32_i32, Ideal.cmpf_def, Ideal.cmp, hs, Scalar.select, h, h.ne, IntOp.ori, IntOp.andi]
  · by_cases h' : a = b
    · cases hb : BitVec.slt i j <;>
        simp [reducer_argmin_f32_i32, Ideal.cmpf_def, Ideal.cmp, hs, hb, Scalar.select, h', IntOp.ori, IntOp.andi]
    · simp [reducer_argmin_f32_i32, Ideal.cmpf_def, Ideal.cmp, hs, Scalar.select, h, h', IntOp.ori, IntOp.andi]

/-- The reducer from its start over two entries, the first of index 0 and the second of index 1, in either order:
    its index is 1 exactly when the second entry is the smaller. -/
theorem reducer_pair (a b : EReal) :
    (reducer_argmin_f32_i32 (F := Ideal) (reducer_argmin_f32_i32 (F := Ideal) (⊤, 0#32) (a, 0#32)) (b, 1#32)).2
        = (if b < a then 1#32 else 0#32)
      ∧ (reducer_argmin_f32_i32 (F := Ideal) (reducer_argmin_f32_i32 (F := Ideal) (⊤, 0#32) (b, 1#32)) (a, 0#32)).2
        = (if b < a then 1#32 else 0#32) := by
  have h01 : BitVec.slt 0#32 1#32 = true := by decide
  have h10 : BitVec.slt 1#32 0#32 = false := by decide
  have h00 : BitVec.slt 0#32 0#32 = false := by decide
  simp only [reducer_step, not_top_lt, h00, h01, h10, if_false, false_or, and_true, Bool.false_eq_true, and_false,
    or_false]
  constructor
  · rcases lt_trichotomy a b with h | h | h
    · simp [h, h.not_gt]
    · simp [h]
    · simp [h, h.not_gt, h.ne']
  · rcases eq_or_ne b ⊤ with hb | hb
    · subst hb; simp
    · rcases lt_trichotomy a b with h | h | h
      · simp [hb.symm, h.not_gt]
      · simp [hb.symm, h, h10]
      · simp [hb.symm, h]

/-- The index the reference finds for row `r`: 1 exactly when the second distance is the smaller. -/
theorem nearest_at (d : FVec Ideal S65536x2 .f32) (r : Fin 65536) :
    nearest d (ix1 r) = if d (ix2 r 1) < d (ix2 r 0) then 1#32 else 0#32 := by
  have hp : ((List.finRange S65536x2.numel).filter fun n =>
      decide (reducesTo_S65536x2_S65536_d1.drop (S65536x2.rowMajor.symm n) = ix1 r)).Perm
        [S65536x2.rowMajor (ix2 r 0), S65536x2.rowMajor (ix2 r 1)] := by
    refine (List.perm_ext_iff_of_nodup ((List.nodup_finRange _).filter _) ?_).2 fun n => ?_
    · simp only [List.nodup_cons, List.mem_singleton, EmbeddingLike.apply_eq_iff_eq, ix2_inj, List.not_mem_nil,
        not_false_eq_true, List.nodup_nil, and_true]
      simp
    · obtain ⟨i, rfl⟩ := S65536x2.rowMajor.surjective n
      simp only [List.mem_filter, List.mem_finRange, true_and, decide_eq_true_eq, Equiv.symm_apply_apply,
        List.mem_cons, List.not_mem_nil, or_false, EmbeddingLike.apply_eq_iff_eq]
      idx_vars i
      have hd : reducesTo_S65536x2_S65536_d1.drop (ix2 i0 i1) = ix1 i0 := by
        funext b
        obtain rfl : b = 0 := Subsingleton.elim _ _
        exact Fin.ext (Shape.ReducesTo.drop_apply_val_of_eq reducesTo_S65536x2_S65536_d1 (ix2 i0 i1) 0 0)
      rw [hd, ix1_inj, ix2_inj, ix2_inj]
      constructor
      · rintro rfl
        fin_cases i1 <;> simp
      · rintro (h | h) <;> exact h.1
  have hi : Ideal.ofBits .f32 0x7F800000#32 = (⊤ : EReal) := by simp [Ideal.ofBits, Ideal.ieee]
  have h0 : (constant (F := Ideal) S_ .f32 0x7F800000#32 (Shape.Idx.first h_S_), constantI S_ 32 0#32 (Shape.Idx.first h_S_))
      = ((⊤ : EReal), 0#32) := Prod.ext hi rfl
  have e0 : iotaInDim S65536x2 32 1 (ix2 r 0) = 0#32 := rfl
  have e1 : iotaInDim S65536x2 32 1 (ix2 r 1) = 1#32 := rfl
  unfold nearest
  rw [Ideal.argReduce_eq_reduce2, Host.reduce2_eq_foldl_fiber, Host.argReduceFiber]
  rcases List.perm_pair.1 hp with h | h
  · rw [h]
    simp only [List.map_cons, List.map_nil, List.foldl_cons, List.foldl_nil, Equiv.symm_apply_apply, h0, e0, e1]
    exact (reducer_pair _ _).1
  · rw [h]
    simp only [List.map_cons, List.map_nil, List.foldl_cons, List.foldl_nil, Equiv.symm_apply_apply, h0, e0, e1]
    exact (reducer_pair _ _).2

/-- A row number that is 0 or 1 is looked up as it is. -/
theorem wrapped_at (i : IVec S65536 32) (r : Fin 65536) (b : Fin 2) (h : i (ix1 r) = BitVec.ofNat 32 b.val) :
    wrapped i (ix2 r (0 : Fin 1)) = BitVec.ofNat 32 b.val := by
  pointwise [wrapped, h]
  fin_cases b <;> rfl

/-- A row number that is 0 or 1 is inside the table of centroids. -/
theorem inside_at (w : IVec S65536x1 32) (r : Fin 65536) (b : Fin 2) (h : w (ix2 r (0 : Fin 1)) = BitVec.ofNat 32 b.val) :
    inside w (ix1 r) = 1#1 := by
  pointwise [inside]
  have : (Finset.univ : Finset (Fin 1)) = {0} := rfl
  rw [this, Finset.fold_singleton, h]
  fin_cases b <;> rfl

/-- Looking up row number `b` gives row `b` of the centroids. -/
theorem taken_at (c : FVec Ideal S2x256 .f32) (i : IVec S65536 32) (r : Fin 65536) (l : Fin 256) (b : Fin 2)
    (h : i (ix1 r) = BitVec.ofNat 32 b.val) :
    taken c i (ix2 r l) = c (ix2 b l) := by
  have hw := wrapped_at i r b h
  pointwise [taken]
  rw [inside_at _ r b hw]
  refine Eq.trans (if_pos rfl) ?_
  exact Routing.gather_row _ rfl rfl rfl rfl rfl c (wrapped i) r l b hw (by norm_num)

/-- The reconstruction, at row `r` and column `l`. -/
theorem rebuilt_at (x q : FVec Ideal S65536x256 .f32) (r : Fin 65536) (l : Fin 256) :
    rebuilt x q (ix2 r l) = rBuilt (fun k => x (ix2 r k)) (fun k => q (ix2 r k)) l := by
  have hb : (FloatOps.uitofp (F := Ideal) .f32 (BitVec.ofBool (decide (0 ≤ q (ix2 r l)))) : EReal)
      = if 0 ≤ q (ix2 r l) then 1 else 0 := by
    by_cases h : 0 ≤ q (ix2 r l) <;> simp [FloatOps.uitofp, h]
  pointwise [rebuilt, rBuilt, two, hb]
  rfl

/-- The last step, at row `r` and column `l`. -/
theorem restored_at (y : FVec Ideal S65536x256 .f32) (R : FVec Ideal S256x256 .f32) (n : FVec Ideal S65536x1 .f32) (r : Fin 65536) (l : Fin 256) :
    restored y R n (ix2 r l) = (∑ k, y (ix2 r k) * R (ix2 l k)) * n (ix2 r 0) := by
  pointwise [restored]

/-- The centroid chosen for row `r`, at column `l`. -/
theorem chosen_at (x : FVec Ideal S65536x256 .f32) (R : FVec Ideal S256x256 .f32) (c : FVec Ideal S2x256 .f32) (r : Fin 65536) (l : Fin 256) :
    chosen x R c (ix2 r l)
      = rSel (rRot (fun k => x (ix2 r k)) (fun i k => R (ix2 i k))) (fun i k => c (ix2 i k)) l := by
  have hn := nearest_at (distances (rotated x R) c) r
  simp only [distances_at, rotated_at] at hn
  unfold rSel
  split_ifs at hn ⊢
  · exact taken_at c _ r l 1 hn
  · exact taken_at c _ r l 0 hn

/-- The reference's result, at row `r` and column `l`: the reference's row of `RowMath`. -/
theorem result_at (x : FVec Ideal S65536x256 .f32) (R : FVec Ideal S256x256 .f32) (c : FVec Ideal S2x256 .f32) (r : Fin 65536) (l : Fin 256) :
    result x R c (ix2 r l) = rRow (fun k => x (ix2 r k)) (fun i k => R (ix2 i k)) (fun i k => c (ix2 i k)) l := by
  unfold result
  rw [restored_at]
  simp only [rebuilt_at, lengths_at]
  pointwise [chosen_at, rotated_at]
  rfl

end Cert.Proof.ReferenceRow

end
-- ==== Proof.Equation.lean ====
module

public import proofs.«01_k».proof.Defs
public import proofs.«01_k».proof.Proof.KernelArray
public import proofs.«01_k».proof.Proof.ReferenceRow

@[expose] public section
set_option maxRecDepth 16384
noncomputable section

/-! # The array the kernel leaves is the array the reference leaves -/

namespace Cert.Proof.Equation

open Idealize.ShloMosaic Idealize.ShloMosaic.TcCoe Idealize.SL.Sem

/-- The side conditions the precondition's function states. -/
theorem preFacts : Cert.Pre_finite_tables.Facts := ⟨by decide, by decide⟩

/-- An extended real whose size is below infinity is neither infinity. -/
theorem real_of_abs_lt_top (a : EReal) (h : max a (-a) < ⊤) : a ≠ ⊤ ∧ a ≠ ⊥ := by
  constructor
  · rintro rfl; simp at h
  · rintro rfl; simp at h

/-- A decision whose bit is 1 holds. -/
theorem ofBool_true {p : Prop} [Decidable p] (h : BitVec.ofBool (decide p) = 1#1) : p := by
  by_contra hp
  simp [hp] at h

/-- What the precondition says: no entry of the table and no entry of the centroids is infinite. -/
theorem finite_of_pre [Cert.Pre_finite_tables.Facts] (x : FVec Ideal Cert.Pre_finite_tables.S65536x256 .f32)
    (R : FVec Ideal Cert.Pre_finite_tables.S256x256 .f32) (c : FVec Ideal Cert.Pre_finite_tables.S2x256 .f32)
    (h : (Cert.Pre_finite_tables.fn (F := Ideal) x R c).1 = (fun _ => 1#1)
      ∧ (Cert.Pre_finite_tables.fn (F := Ideal) x R c).2 = (fun _ => 1#1)) :
    (∀ i k : Fin 256, R (ix2 i k) ≠ ⊤ ∧ R (ix2 i k) ≠ ⊥)
      ∧ ∀ (i : Fin 2) (k : Fin 256), c (ix2 i k) ≠ ⊤ ∧ c (ix2 i k) ≠ ⊥ := by
  have hi : Ideal.ofBits .f32 0x7F800000#32 = (⊤ : EReal) := by simp [Ideal.ofBits, Ideal.ieee]
  refine ⟨fun i k => real_of_abs_lt_top _ ?_, fun i k => real_of_abs_lt_top _ ?_⟩
  · have h1 := congrFun h.1 (ix2 i k)
    pointwise [Cert.Pre_finite_tables.fn, hi] at h1
    exact ofBool_true h1
  · have h1 := congrFun h.2 (ix2 i k)
    pointwise [Cert.Pre_finite_tables.fn, hi] at h1
    exact ofBool_true h1

/-- THE EQUATION. Where the table and the centroids are finite, the array of the kernel's rows is the reference's
    result. -/
theorem rows_eq_result (x : FVec Ideal Cert.KernelIdeal.S65536x256 .f32) (R : FVec Ideal Cert.KernelIdeal.S256x256 .f32)
    (c : FVec Ideal Cert.KernelIdeal.S2x256 .f32)
    (hR : ∀ i k : Fin 256, R (ix2 i k) ≠ ⊤ ∧ R (ix2 i k) ≠ ⊥)
    (hc : ∀ (i : Fin 2) (k : Fin 256), c (ix2 i k) ≠ ⊤ ∧ c (ix2 i k) ≠ ⊥) :
    KernelArray.rows x R c = ReferenceTerm.result x R c := by
  funext i
  idx_vars i
  exact (RowMath.kRow_eq_rRow _ _ _ hR hc i1).trans (ReferenceRow.result_at x R c i0 i1).symm

end Cert.Proof.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Equation
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem

/-- The kernel runs to its end and leaves its arguments and semaphores as it found them. -/
theorem frame_kernel : Cert.quiescent_Kernel (hKernel := Cert.Kernel.Gen.facts) :=
  fun m ρ _ => Cert.Kernel.Gen.frame m ρ

/-- So does the idealized kernel, from any arguments. -/
theorem frame_kernelIdeal : Cert.quiescent_KernelIdeal (hKernelIdeal := Cert.KernelIdeal.Gen.facts) :=
  fun m ρ _ => Cert.KernelIdeal.Gen.frame m ρ

/-- So does the idealized kernel from arguments under the precondition. -/
theorem frame_kernelIdeal_pre : Cert.quiescent_KernelIdeal_pre_finite_tables
    (hKernelIdeal := Cert.KernelIdeal.Gen.facts) (hPre_finite_tables := Equation.preFacts) :=
  fun m ρ _ => Cert.KernelIdeal.Gen.frame m ρ

/-- So does the reference, from any arguments. -/
theorem frame_reference : Cert.quiescent_ReferenceIdeal (hReferenceIdeal := Cert.ReferenceIdeal.Gen.facts) := by
  intro m g _
  exact (θ_run _ _ _).mono (fun r h => ⟨fun c => (h c).2, sem_eq_zero_of_no_sems (by decide) r.2⟩) (ReferenceTerm.run m g)

/-- So does the reference from arguments under the precondition. -/
theorem frame_reference_pre : Cert.quiescent_ReferenceIdeal_pre_finite_tables
    (hReferenceIdeal := Cert.ReferenceIdeal.Gen.facts) (hPre_finite_tables := Equation.preFacts) := by
  intro m g _
  exact (θ_run _ _ _).mono (fun r h => ⟨fun c => (h c).2, sem_eq_zero_of_no_sems (by decide) r.2⟩) (ReferenceTerm.run m g)

/-- Taking a value's sign bit is comparing it with zero, as the idealized kernel does. -/
theorem preserved : Cert.preserves_Kernel_KernelIdeal :=
  IdealRules.sign_bit.statement Cert.KernelIdeal.S4096x256 .bf16

/-- From equal arguments, the table and the centroids finite, the idealized kernel and the reference both run and leave
    equal results. -/
theorem equal_results : Cert.algebraic_KernelIdeal_ReferenceIdeal_pre_finite_tables
    (hKernelIdeal := Cert.KernelIdeal.Gen.facts) (hReferenceIdeal := Cert.ReferenceIdeal.Gen.facts)
    (hPre_finite_tables := Equation.preFacts) := by
  intro m g m' g' hpre hagree
  refine ⟨_, Cert.KernelIdeal.Value.run_blocks m g, ?_⟩
  refine (θ_run _ _ _).mono (fun r h c => ⟨(h c).1.trans ?_, (h c).2⟩) (ReferenceTerm.run m' g')
  obtain ⟨hR, hc⟩ := @Equation.finite_of_pre Equation.preFacts _ _ _ (hpre c)
  rw [(hagree c).1, (hagree c).2.1, (hagree c).2.2]
  exact ((KernelArray.final m c).trans (Equation.rows_eq_result _ _ _ hR hc)).symm

theorem claim : Cert.Claim :=
  ⟨Cert.Kernel.Gen.facts, Cert.KernelIdeal.Gen.facts, Cert.ReferenceIdeal.Gen.facts, Equation.preFacts,
    frame_kernel, frame_kernelIdeal, frame_kernelIdeal_pre, frame_reference, frame_reference_pre, preserved,
    equal_results⟩

end Cert.Proof

end
